-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x768 : Shape := ⟨2, ![16384, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S1x8 : Shape := ⟨2, ![1, 8]⟩
abbrev S1024x768 : Shape := ⟨2, ![1024, 768]⟩
abbrev S1024x8 : Shape := ⟨2, ![1024, 8]⟩
abbrev S1024 : Shape := ⟨1, ![1024]⟩
abbrev S1024x1 : Shape := ⟨2, ![1024, 1]⟩
abbrev S1x768x768 : Shape := ⟨3, ![1, 768, 768]⟩
abbrev S768x768 : Shape := ⟨2, ![768, 768]⟩
abbrev S1x768 : Shape := ⟨2, ![1, 768]⟩

abbrev nBuf : Space → Nat
  | .hbm => 7
  | .vmem => 8
  | .smem => 0
  | _ => 0

abbrev bufTy : (tb : Table) → Fin (tcTables nBuf tb) → BufTy
  | .hbm, ⟨0, _⟩ => ⟨S16384x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S1x8, .f32⟩
  | .hbm, ⟨6, _⟩ => ⟨S16384x768, .f32⟩
  | .local _ .vmem, ⟨0, _⟩ => ⟨S1024x768, .f32⟩
  | .local _ .vmem, ⟨1, _⟩ => ⟨S1024x768, .f32⟩
  | .local _ .vmem, ⟨2, _⟩ => ⟨S768x8, .f32⟩
  | .local _ .vmem, ⟨3, _⟩ => ⟨S1x8, .f32⟩
  | .local _ .vmem, ⟨4, _⟩ => ⟨S8x768x768, .f32⟩
  | .local _ .vmem, ⟨5, _⟩ => ⟨S8x768, .f32⟩
  | .local _ .vmem, ⟨6, _⟩ => ⟨S1024x768, .f32⟩
  | .local _ .vmem, ⟨7, _⟩ => ⟨S1024x768, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x768 : Shape := ⟨2, ![16384, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S16384x8 : Shape := ⟨2, ![16384, 8]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S16384x8x768 : Shape := ⟨3, ![16384, 8, 768]⟩
abbrev S1x8x768 : Shape := ⟨3, ![1, 8, 768]⟩
abbrev S16384x8x1 : Shape := ⟨3, ![16384, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S16384x8, .f32⟩
  | .hbm, ⟨6, _⟩ => ⟨S1x8, .f32⟩
  | .hbm, ⟨7, _⟩ => ⟨S16384x8, .f32⟩
  | .hbm, ⟨8, _⟩ => ⟨S16384x8, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x8, .f32⟩
  | .hbm, ⟨22, _⟩ => ⟨S16384x8, .f32⟩
  | .hbm, ⟨23, _⟩ => ⟨S16384x8x768, .f32⟩
  | .hbm, ⟨24, _⟩ => ⟨S1x8x768, .f32⟩
  | .hbm, ⟨25, _⟩ => ⟨S16384x8x768, .f32⟩
  | .hbm, ⟨26, _⟩ => ⟨S16384x8x768, .f32⟩
  | .hbm, ⟨27, _⟩ => ⟨S16384x8x1, .f32⟩
  | .hbm, ⟨28, _⟩ => ⟨S16384x8x768, .f32⟩
  | .hbm, ⟨29, _⟩ => ⟨S16384x8x768, .f32⟩
  | .hbm, ⟨30, _⟩ => ⟨S_, .f32⟩
  | .hbm, ⟨31, _⟩ => ⟨S16384x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Mix.lean ====
/-
  The mathematics of the problem for one row of the input, over the extended reals: the selector's logits, their
  softmax, each expert's affine map, and the mixture of the experts weighted by the softmax.
-/
module

public import Idealize.ShloMosaic.PureOps.Ideal.Laws

@[expose] public section

noncomputable section

namespace Cert.Mix

open Idealize.ShloMosaic

variable (x : Fin 768 → EReal) (Ws : Fin 768 → Fin 8 → EReal) (bs : Fin 8 → EReal)
  (Wp : Fin 8 → Fin 768 → Fin 768 → EReal) (bp : Fin 8 → Fin 768 → EReal)

/-- The selector's logit for expert `e`: the row against column `e` of the selector's matrix, plus its bias. -/
def logit (e : Fin 8) : EReal := (∑ k : Fin 768, x k * Ws k e) + bs e

/-- The largest of eight numbers. -/
def top (l : Fin 8 → EReal) : EReal := Finset.univ.fold max ⊥ l

/-- The numerator of the softmax: the exponential of the distance to the largest number. -/
def weight (l : Fin 8 → EReal) (e : Fin 8) : EReal := Ideal.exp (l e - top l)

/-- The softmax of eight numbers. -/
def softmax (l : Fin 8 → EReal) (e : Fin 8) : EReal := Ideal.div (weight l e) (∑ j : Fin 8, weight l j)

/-- Expert `e` at output column `o`: the row against column `o` of its matrix, plus its bias. -/
def expert (e : Fin 8) (o : Fin 768) : EReal := (∑ k : Fin 768, x k * Wp e k o) + bp e o

/-- The mixture at output column `o`: the experts weighted by the softmax of the logits. -/
def mix (o : Fin 768) : EReal := ∑ e : Fin 8, softmax (logit x Ws bs) e * expert x Wp bp e o

/-- The f32 word of minus infinity, from which both programs start a maximum, is the least extended real. -/
theorem ofBits_minus_infinity : Ideal.ofBits .f32 0xFF800000#32 = ⊥ := by
  simp [Ideal.ofBits, Ideal.ieee]

end Cert.Mix

end
-- ==== Proof.Block.lean ====
/-
  What one grid point computes: the block it stores, read at a row and a column, is the mixture of the experts for
  that row.
-/
module

public import proofs.«01_k».proof.Proof.Mix
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

variable (x0 : Vec Ideal S1024x768 .f32) (x1 : Vec Ideal S768x8 .f32) (x2 : Vec Ideal S1x8 .f32)
  (x3 : Vec Ideal S8x768x768 .f32) (x4 : Vec Ideal S8x768 .f32)

/-- Row `r` of the probabilities that the block computes is the softmax of that row's logits. -/
theorem probs (r : Fin 1024) (e : Fin 8) :
    k0_pay2 (F := Ideal) x0 x1 x2 (ix2 r e)
      = Mix.softmax (Mix.logit (fun k => x0 (ix2 r k)) (fun k e => x1 (ix2 k e)) (fun e => x2 (ix2 0 e))) e := by
  pointwise [k0_pay2]
  simp only [Mix.ofBits_minus_infinity, bot_sup_eq]
  rfl

/-- What one grid point stores at row `r`, column `o` is the mixture of the experts for row `r` of its input block. -/
theorem block (r : Fin 1024) (o : Fin 768) :
    out0_5 (F := Ideal) x0 x1 x2 x3 x4 (ix2 r o)
      = Mix.mix (fun k => x0 (ix2 r k)) (fun k e => x1 (ix2 k e)) (fun e => x2 (ix2 0 e))
          (fun e k o => x3 (ix3 e k o)) (fun e o => x4 (ix2 e o)) o := by
  unfold out0_5 k0_pay9
  frame_out
  pointwise [k0_pay1, k0_pay3, k0_pay4, k0_pay5, k0_pay6, k0_pay7, k0_pay8]
  simp only [probs, Mix.mix, Mix.expert, Fin.sum_univ_eight]

end Cert.KernelIdeal.Block

end
-- ==== Proof.Array.lean ====
/-
  What the kernel's result array holds after the run: at every row and column the mixture of the experts for that row
  of the input array. The grid's sixteen blocks of 1024 rows tile the array.
-/
module

public import proofs.«01_k».proof.Proof.Block
public import proofs.«01_k».proof.Proof.Gen.KernelIdeal.Value

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

/-- The mixture as one function of the five argument arrays, read at a row and a column. -/
def mixArray (X : Vec Ideal S16384x768 .f32) (Ws : Vec Ideal S768x8 .f32) (bs : Vec Ideal S8 .f32)
    (Wp : Vec Ideal S8x768x768 .f32) (bp : Vec Ideal S8x768 .f32) : Vec Ideal S16384x768 .f32 :=
  fun i => Mix.mix (fun k => X (ix2 (i 0) k)) (fun k e => Ws (ix2 k e)) (fun e => bs (ix1 e))
    (fun e k o => Wp (ix3 e k o)) (fun e o => bp (ix2 e o)) (i 1)

variable (m : (ℓ : Loc nD τ sig) → Buf (Elt Ideal) ℓ)

/-- The windows' block indices: the input rows and the output move with the grid point, the weights stay. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- Row `r` of the input block at point `t` is row `1024 t + r` of the input array. -/
theorem read0 (c : Dev nD) (t : Fin cfg0.N) (y : S1024x768.Idx) (k : Fin 768) :
    (iblk m c 0 t : Vec Ideal S1024x768 .f32) (ix2 (y 0) k)
      = (m ((c : Thread nD τ).loc main_arg0) : Vec Ideal S16384x768 .f32)
          (ix2 ((((cfg0.win 5).blk t).view.emb y : S16384x768.Idx) 0) k) := by
  blk_ext [iblk, V, idx t]

/-- The selector's matrix is staged whole. -/
theorem read1 (c : Dev nD) (t : Fin cfg0.N) (k : Fin 768) (e : Fin 8) :
    (iblk m c 1 t : Vec Ideal S768x8 .f32) (ix2 k e)
      = (m ((c : Thread nD τ).loc main_arg1) : Vec Ideal S768x8 .f32) (ix2 k e) := by
  blk_ext [iblk, V, idx t]

/-- The selector's bias is staged whole, as one row. -/
theorem read2 (c : Dev nD) (t : Fin cfg0.N) (e : Fin 8) :
    (iblk m c 2 t : Vec Ideal S1x8 .f32) (ix2 0 e)
      = (m ((c : Thread nD τ).loc main_arg2) : Vec Ideal S8 .f32) (ix1 e) := by
  blk_ext! [iblk, V, idx t]

/-- The experts' matrices are staged whole. -/
theorem read3 (c : Dev nD) (t : Fin cfg0.N) (e : Fin 8) (k o : Fin 768) :
    (iblk m c 3 t : Vec Ideal S8x768x768 .f32) (ix3 e k o)
      = (m ((c : Thread nD τ).loc main_arg3) : Vec Ideal S8x768x768 .f32) (ix3 e k o) := by
  blk_ext [iblk, V, idx t]

/-- The experts' biases are staged whole. -/
theorem read4 (c : Dev nD) (t : Fin cfg0.N) (e : Fin 8) (o : Fin 768) :
    (iblk m c 4 t : Vec Ideal S8x768 .f32) (ix2 e o)
      = (m ((c : Thread nD τ).loc main_arg4) : Vec Ideal S8x768 .f32) (ix2 e o) := by
  blk_ext [iblk, V, idx t]

/-- A column of the output block is the same column of the output array. -/
theorem col (t : Fin cfg0.N) (y : S1024x768.Idx) :
    (y 1 : Fin 768) = (((cfg0.win 5).blk t).view.emb y : S16384x768.Idx) 1 := by
  apply Fin.ext
  blk_simp [idx t]

/-- The result array after the run is the mixture of the argument arrays. -/
theorem final (c : Dev nD) : (dats m 0 c).arrAt 5 (cfgs 0).N
    = mixArray (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]
  refine (congrArg _ (eq_ix2 (y : S1024x768.Idx))).trans
    ((Block.block (iblk m c 0 t) (iblk m c 1 t) (iblk m c 2 t) (iblk m c 3 t) (iblk m c 4 t) (y 0) (y 1)).trans ?_)
  unfold mixArray
  simp only [read1, read2, read3, read4]
  rw [← col t y]
  congr 1
  funext k
  exact read0 m c t y k

end Cert.KernelIdeal.Array

end
-- ==== Proof.Reference.lean ====
/-
  What the reference computes: at every row and column its result is the mixture of the experts for that row.
-/
module

public import proofs.«01_k».proof.Proof.Mix
public import proofs.«01_k».proof.Proof.Gen.ReferenceIdeal.Read
public import Idealize.ShloMosaic.Lib.Pointwise

@[expose] public section

set_option maxRecDepth 16384

noncomputable section

namespace Cert.ReferenceIdeal.Mixture

open Cert.ReferenceIdeal Cert.ReferenceIdeal.Gen Cert.ReferenceIdeal.Read
open Idealize.ShloMosaic Idealize.ShloMosaic.TcCoe Idealize.SL.Sem

variable (x0 : FVec Ideal S16384x768 .f32) (x1 : FVec Ideal S768x8 .f32) (x2 : FVec Ideal S8 .f32)
  (x3 : FVec Ideal S8x768x768 .f32) (x4 : FVec Ideal S8x768 .f32)

/-- The reference's probabilities of row `b` are the softmax of that row's logits. -/
theorem probs (b : Fin 16384) (e : Fin 8) :
    val_main_v14 (F := Ideal) x0 x1 x2 (ix2 b e)
      = Mix.softmax (Mix.logit (fun k => x0 (ix2 b k)) (fun k e => x1 (ix2 k e)) (fun e => x2 (ix1 e))) e := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  simp only [Mix.ofBits_minus_infinity, bot_sup_eq]
  rfl

/-- The reference's result at row `b`, column `o` is the mixture of the experts for row `b`. -/
theorem result (b : Fin 16384) (o : Fin 768) :
    val_main_v22 (F := Ideal) x0 x1 x2 x3 x4 (ix2 b o)
      = Mix.mix (fun k => x0 (ix2 b k)) (fun k e => x1 (ix2 k e)) (fun e => x2 (ix1 e))
          (fun e k o => x3 (ix3 e k o)) (fun e o => x4 (ix2 e o)) o := by
  pointwise [val_main_v22, val_main_v21, val_main_v20, val_main_v19, val_main_v18, val_main_v17, val_main_v16,
    val_main_v15, val_main_cst_2]
  refine Finset.sum_congr rfl fun e _ => ?_
  rw [probs, mul_comm]
  rfl

end Cert.ReferenceIdeal.Mixture

end
-- ==== Proof.lean ====
/-
  The proof of `Cert.Claim`: the three programs run to their end from any memory, leave their arguments as they were
  and every semaphore counter at zero; the kernel that is idealized is the kernel as printed; and over the extended
  reals the kernel and the reference leave the same result array, the mixture of the experts.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates from any memory, with its arguments unchanged and every counter at zero. -/
theorem quiescent_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Over the extended reals, on the same arguments, the kernel and the reference leave the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Array.mixArray
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m ρ)
    exact ⟨(h c).1.trans (Cert.KernelIdeal.Array.final m c), (h c).2⟩
  · refine (θ_run Cert.ReferenceIdeal.defs _ _).mono (fun r h c => ?_)
      (Cert.ReferenceIdeal.Value.run (F := Ideal) m' ρ')
    refine ⟨(h c).1.trans ?_, (h c).2⟩
    rw [Cert.ReferenceIdeal.Read.val_main_v22_eq, (hagree c).1, (hagree c).2.1, (hagree c).2.2.1, (hagree c).2.2.2.1,
      (hagree c).2.2.2.2]
    funext i
    rw [eq_ix2 i]
    exact Cert.ReferenceIdeal.Mixture.result _ _ _ _ _ (i 0) (i 1)

/-- Every claim of this certificate, with the facts that the three programs state about themselves. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial,
  algebraic⟩

end Cert.Proof

end
